-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x512x1000 : Shape := ⟨3, ![16, 512, 1000]⟩
abbrev S16x512 : Shape := ⟨2, ![16, 512]⟩
abbrev S_ : Shape := ⟨0, ![]⟩

class Facts : Prop where
  bcast_S_S16x512x1000 : S_.BroadcastsInDim S16x512x1000 (![] : Fin 0 → Fin S16x512x1000.rank)
  reducesTo_S16x512x1000_S_d0_1_2 : S16x512x1000.ReducesTo [0, 1, 2] S_
  h_S_ : 0 < S_.numel
  reducesTo_S16x512x1000_S16x512_d2 : S16x512x1000.ReducesTo [2] S16x512
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_v11 : IVec S_ 1) (main_v14 : IVec S_ 1) : IVec S_ 1 :=
  let main_v15 : IVec S_ 1 := andi main_v11 main_v14
  main_v15

def fn {F : FTy → Type} [FloatOps F] (main_arg0 : FVec F S16x512x1000 .f32) (main_arg1 : IVec S16x512 32) : IVec S_ 1 :=
  let main_cst : FVec F S_ .f32 := constant S_ .f32 0x7F800000#32
  let main_v0 : FVec F S16x512x1000 .f32 := broadcastInDim S16x512x1000 ![] bcast_S_S16x512x1000 main_cst
  let main_v1 : IVec S16x512x1000 1 := cmpf .olt main_arg0 main_v0
  let main_c : IVec S_ 1 := constantI S_ 1 1#1
  let main_v2 : IVec S_ 1 := (fun x v => Host.reduce IntOp.andi x v reducesTo_S16x512x1000_S_d0_1_2 h_S_) main_v1 main_c
  let main_cst_0 : FVec F S_ .f32 := constant S_ .f32 0xFF800000#32
  let main_v3 : FVec F S16x512 .f32 := (fun x v => Host.reduce FloatOps.maximumf x v reducesTo_S16x512x1000_S16x512_d2 h_S_) main_arg0 main_cst_0
  let main_cst_1 : FVec F S_ .f32 := constant S_ .f32 0xFF800000#32
  let main_v4 : FVec F S16x512 .f32 := broadcastInDim S16x512 ![] bcast_S_S16x512 main_cst_1
  let main_v5 : IVec S16x512 1 := cmpf .ogt main_v3 main_v4
  let main_c_2 : IVec S_ 1 := constantI S_ 1 1#1
  let main_v6 : IVec S_ 1 := (fun x v => Host.reduce IntOp.andi x v reducesTo_S16x512_S_d0_1 h_S_) main_v5 main_c_2
  let main_v7 : IVec S_ 1 := andi main_v2 main_v6
  let main_c_3 : IVec S_ 32 := constantI S_ 32 0#32
  let main_v8 : IVec S16x512 32 := broadcastInDim S16x512 ![] bcast_S_S16x512 main_c_3
  let main_v9 : IVec S16x512 1 := cmpi .sge main_arg1 main_v8
  let main_c_4 : IVec S_ 1 := constantI S_ 1 1#1
  let main_v10 : IVec S_ 1 := (fun x v => Host.reduce IntOp.andi x v reducesTo_S16x512_S_d0_1 h_S_) main_v9 main_c_4
  let main_v11 : IVec S_ 1 := andi main_v7 main_v10
  let main_c_5 : IVec S_ 32 := constantI S_ 32 1000#32
  let main_v12 : IVec S16x512 32 := broadcastInDim S16x512 ![] bcast_S_S16x512 main_c_5
  let main_v13 : IVec S16x512 1 := cmpi .slt main_arg1 main_v12
  let main_c_6 : IVec S_ 1 := constantI S_ 1 1#1
  let main_v14 : IVec S_ 1 := (fun x v => Host.reduce IntOp.andi x v reducesTo_S16x512_S_d0_1 h_S_) main_v13 main_c_6
  fn_part1 (F := F) main_v11 main_v14
-- ==== Kernel.lean ====
abbrev S16x512x1000 : Shape := ⟨3, ![16, 512, 1000]⟩
abbrev S16x512 : Shape := ⟨2, ![16, 512]⟩
abbrev S16x1000x512 : Shape := ⟨3, ![16, 1000, 512]⟩
abbrev S16x1 : Shape := ⟨2, ![16, 1]⟩
abbrev S2x1000x512 : Shape := ⟨3, ![2, 1000, 512]⟩
abbrev S2x512 : Shape := ⟨2, ![2, 512]⟩
abbrev S2x1x512 : Shape := ⟨3, ![2, 1, 512]⟩
abbrev S1x512 : Shape := ⟨2, ![1, 512]⟩
abbrev S1x1x512 : Shape := ⟨3, ![1, 1, 512]⟩
abbrev S2x1000 : Shape := ⟨2, ![2, 1000]⟩
abbrev S2x1000x1 : Shape := ⟨3, ![2, 1000, 1]⟩
abbrev S2 : Shape := ⟨1, ![2]⟩
abbrev S1 : Shape := ⟨1, ![1]⟩
abbrev S1x1 : Shape := ⟨2, ![1, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x512x1000, .f32⟩
  | .hbm, ⟨1, _⟩ => ⟨S16x512, .i32⟩
  | .hbm, ⟨2, _⟩ => ⟨S16x1000x512, .f32⟩
  | .hbm, ⟨3, _⟩ => ⟨S16x1, .f32⟩
  | .local _ .vmem, ⟨0, _⟩ => ⟨S2x1000x512, .f32⟩
  | .local _ .vmem, ⟨1, _⟩ => ⟨S2x1000x512, .f32⟩
  | .local _ .vmem, ⟨2, _⟩ => ⟨S16x512, .i32⟩
  | .local _ .vmem, ⟨3, _⟩ => ⟨S16x1, .f32⟩
  | _, _ => ⟨S16x512x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c2_i32 : BitVec 32 := 2#32
  let v9 : BitVec 32 := Scalar.muli arg0 c2_i32
  let v10 : BitVec 32 := Scalar.addi v9 c0_i32
  let v11 : Index := Scalar.indexCast v10
  let c0_3 : Index := 0#32
  ![v11.toNat, 0]
def k0_off2 (i : grid0.Coords) (c0_i32_16 : BitVec 32) : Fin 2 → Nat :=
  let arg0 : BitVec 32 := BitVec.ofNat 32 (i 0).val
  let c2_i32_15 : BitVec 32 := 2#32
  let v52 : BitVec 32 := Scalar.muli arg0 c2_i32_15
  let v53 : BitVec 32 := Scalar.addi v52 c0_i32_16
  let v54 : Index := Scalar.indexCast v53
  let c0_17 : Index := 0#32
  ![v54.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16x512x1000 : Shape := ⟨3, ![16, 512, 1000]⟩
abbrev S16x512 : Shape := ⟨2, ![16, 512]⟩
abbrev S2 : Shape := ⟨1, ![2]⟩
abbrev S_ : Shape := ⟨0, ![]⟩
abbrev S16x512x1 : Shape := ⟨3, ![16, 512, 1]⟩
abbrev S16x1000x512 : Shape := ⟨3, ![16, 1000, 512]⟩
abbrev S1 : Shape := ⟨1, ![1]⟩
abbrev S1x1x1 : Shape := ⟨3, ![1, 1, 1]⟩
abbrev S16x512x512 : Shape := ⟨3, ![16, 512, 512]⟩
abbrev S16x1x512x512 : Shape := ⟨4, ![16, 1, 512, 512]⟩
abbrev S16x1x512 : Shape := ⟨3, ![16, 1, 512]⟩
abbrev S16x1x512x1 : Shape := ⟨4, ![16, 1, 512, 1]⟩
abbrev S16x1x1x512 : Shape := ⟨4, ![16, 1, 1, 512]⟩
abbrev S16x1 : Shape := ⟨2, ![16, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x512x1000, .f32⟩
  | .hbm, ⟨1, _⟩ => ⟨S16x512, .i32⟩
  | .hbm, ⟨2, _⟩ => ⟨S2, .i32⟩
  | .hbm, ⟨3, _⟩ => ⟨S_, .f32⟩
  | .hbm, ⟨4, _⟩ => ⟨S16x512, .f32⟩
  | .hbm, ⟨5, _⟩ => ⟨S_, .f32⟩
  | .hbm, ⟨6, _⟩ => ⟨S16x512, .f32⟩
  | .hbm, ⟨7, _⟩ => ⟨S16x512, .f32⟩
  | .hbm, ⟨8, _⟩ => ⟨S16x512x1, .f32⟩
  | .hbm, ⟨9, _⟩ => ⟨S16x512x1000, .f32⟩
  | .hbm, ⟨10, _⟩ => ⟨S16x512x1000, .f32⟩
  | .hbm, ⟨11, _⟩ => ⟨S16x512x1000, .f32⟩
  | .hbm, ⟨12, _⟩ => ⟨S_, .f32⟩
  | .hbm, ⟨13, _⟩ => ⟨S16x512, .f32⟩
  | .hbm, ⟨14, _⟩ => ⟨S16x512x1, .f32⟩
  | .hbm, ⟨15, _⟩ => ⟨S16x512x1000, .f32⟩
  | .hbm, ⟨16, _⟩ => ⟨S16x512x1000, .f32⟩
  | .hbm, ⟨17, _⟩ => ⟨S16x1000x512, .f32⟩
  | .hbm, ⟨18, _⟩ => ⟨S_, .i32⟩
  | .hbm, ⟨19, _⟩ => ⟨S16x512, .i32⟩
  | .hbm, ⟨20, _⟩ => ⟨S16x512, .i1⟩
  | .hbm, ⟨21, _⟩ => ⟨S_, .i32⟩
  | .hbm, ⟨22, _⟩ => ⟨S16x512, .i32⟩
  | .hbm, ⟨23, _⟩ => ⟨S16x512, .i32⟩
  | .hbm, ⟨24, _⟩ => ⟨S16x512, .i32⟩
  | .hbm, ⟨25, _⟩ => ⟨S16x512x1, .i32⟩
  | .hbm, ⟨26, _⟩ => ⟨S1, .i32⟩
  | .hbm, ⟨27, _⟩ => ⟨S_, .i32⟩
  | .hbm, ⟨28, _⟩ => ⟨S16x512x1, .i32⟩
  | .hbm, ⟨29, _⟩ => ⟨S16x512x1, .i1⟩
  | .hbm, ⟨30, _⟩ => ⟨S1x1x1, .i32⟩
  | .hbm, ⟨31, _⟩ => ⟨S16x512x1, .i32⟩
  | .hbm, ⟨32, _⟩ => ⟨S16x512x1, .i1⟩
  | .hbm, ⟨33, _⟩ => ⟨S16x512x1, .i1⟩
  | .hbm, ⟨34, _⟩ => ⟨S_, .i1⟩
  | .hbm, ⟨35, _⟩ => ⟨S16x512, .i1⟩
  | .hbm, ⟨36, _⟩ => ⟨S16x512x512, .f32⟩
  | .hbm, ⟨37, _⟩ => ⟨S16x512x512, .i1⟩
  | .hbm, ⟨38, _⟩ => ⟨S_, .f32⟩
  | .hbm, ⟨39, _⟩ => ⟨S16x512x512, .f32⟩
  | .hbm, ⟨40, _⟩ => ⟨S16x512x512, .f32⟩
  | .hbm, ⟨41, _⟩ => ⟨S16x1x512x512, .f32⟩
  | .hbm, ⟨42, _⟩ => ⟨S_, .f32⟩
  | .hbm, ⟨43, _⟩ => ⟨S16x1x512, .f32⟩
  | .hbm, ⟨44, _⟩ => ⟨S16x1x512x1, .f32⟩
  | .hbm, ⟨45, _⟩ => ⟨S16x1x512x512, .f32⟩
  | .hbm, ⟨46, _⟩ => ⟨S16x1x512x512, .i1⟩
  | .hbm, ⟨47, _⟩ => ⟨S16x1x512x512, .f32⟩
  | .hbm, ⟨48, _⟩ => ⟨S_, .f32⟩
  | .hbm, ⟨49, _⟩ => ⟨S16x1x512, .f32⟩
  | .hbm, ⟨50, _⟩ => ⟨S16x1x1x512, .f32⟩
  | .hbm, ⟨51, _⟩ => ⟨S16x1x512x512, .f32⟩
  | .hbm, ⟨52, _⟩ => ⟨S16x1x512x512, .i1⟩
  | .hbm, ⟨53, _⟩ => ⟨S16x1x512x512, .f32⟩
  | .hbm, ⟨54, _⟩ => ⟨S16x1x512x512, .f32⟩
  | .hbm, ⟨55, _⟩ => ⟨S16x1x512x512, .f32⟩
  | .hbm, ⟨56, _⟩ => ⟨S_, .f32⟩
  | .hbm, ⟨57, _⟩ => ⟨S16x1, .f32⟩
  | .hbm, ⟨58, _⟩ => ⟨S_, .i32⟩
  | .hbm, ⟨59, _⟩ => ⟨S2, .i32⟩
  | .hbm, ⟨60, _⟩ => ⟨S2, .i32⟩
  | .hbm, ⟨61, _⟩ => ⟨S_, .i32⟩
  | .hbm, ⟨62, _⟩ => ⟨S2, .i32⟩
  | .hbm, ⟨63, _⟩ => ⟨S2, .i32⟩
  | .hbm, ⟨64, _⟩ => ⟨S_, .f32⟩
  | .hbm, ⟨65, _⟩ => ⟨S16x1, .f32⟩
  | .hbm, ⟨66, _⟩ => ⟨S16x1, .f32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S16x1, .f32⟩
  | .hbm, ⟨71, _⟩ => ⟨S16x1, .f32⟩
  | _, _ => ⟨S16x512x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.DatRel
public import Idealize.ShloMosaic.Lib.Claim
public import Idealize.ShloMosaic.Lib.Pointwise
public import Idealize.ShloMosaic.Lib.WritesUnit
public import Idealize.ShloMosaic.Lib.VecWindow

/-! The kernel body at one grid point: what it writes into the output block. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The score of the two batch rows of one block: the kernel's arithmetic on a block of logits and two rows of labels. -/
def blkScore (x : Vec F S2x1000x512 .f32) (l0 l1 : Vec F S1x512 .i32) : FVec F S2 .f32 :=
  k0_pay1 (k0_pay4 x) (k0_pay5 l0 l1) (k0_pay6 x l0 l1) (FloatOps.ofBits .f32 0#32)

/-- A grid coordinate is below 8. -/
theorem coord_lt (i : grid0.Coords) : (i 0).val < 8 := (i 0).isLt

/-- Row `2 i + r` of the labels, as a one-row vector. -/
def labelRow (i : grid0.Coords) (r : Fin 2) (l : Vec F S16x512 .i32) : Vec F S1x512 .i32 :=
  fun j => l (ix2 (⟨2 * (i 0).val + r.val, by have := coord_lt i; have := r.isLt; omega⟩ : Fin 16) (j 1))

/-- The output block after point `i`: rows `2 i` and `2 i + 1` hold the two scores, the others are as found. -/
def putRows (i : grid0.Coords) (n : FVec F S2 .f32) (y : Vec F S16x1 .f32) : Vec F S16x1 .f32 :=
  fun k => if (k 0).val = 2 * (i 0).val then n (ix1 0) else if (k 0).val = 2 * (i 0).val + 1 then n (ix1 1) else y k

/-- A load of one row of labels reads that row. -/
theorem read_labelRow (i : grid0.Coords) (r : Fin 2) (arg2 : Memref sig .tc .vmem S16x512 .i32) (harg2 : arg2.IsWhole)
    (l : Vec F S16x512 .i32) (inb) :
    View.readAt (Elt F) arg2.view (Rect.unit (s := S16x512) (k0_off1 i (BitVec.ofNat 32 r.val)) S1x512.size inb).toLoadRect (harg2.unread l)
      = labelRow i r l := by
  have hb : ∀ a, (![2 * (i 0).val + r.val, 0] : Fin 2 → ℕ) a + S1x512.size a ≤ S16x512.size a := by
    rw [← k0_off1_eq i r]; exact inb
  rw [View.readAt_unit (off' := ![2 * (i 0).val + r.val, 0]) _ _ inb (k0_off1_eq i r) hb, harg2.read_unread]
  funext j
  refine congrArg l (funext fun a => Fin.ext ?_)
  match a with
  | ⟨0, _⟩ =>
    have : (j 0).val < 1 := (j 0).isLt
    show 2 * (i 0).val + r.val + 1 * (j 0).val = 2 * (i 0).val + r.val
    omega
  | ⟨1, _⟩ => show 0 + 1 * (j 1).val = (j 1).val; omega

/-- The first stored vector holds the first score. -/
theorem pay2_apply (v8 : FVec F S2x1000x512 .f32) (v26 : FVec F S2x1000x1 .f32) (v41 : IVec S2x1000x512 1) (z : F .f32) (j : S1x1.Idx) :
    k0_pay2 v8 v26 v41 z j = k0_pay1 v8 v26 v41 z (ix1 0) := by
  unfold k0_pay2
  generalize k0_pay1 v8 v26 v41 z = n
  pointwise

/-- The second stored vector holds the second score. -/
theorem pay3_apply (v8 : FVec F S2x1000x512 .f32) (v26 : FVec F S2x1000x1 .f32) (v41 : IVec S2x1000x512 1) (z : F .f32) (j : S1x1.Idx) :
    k0_pay3 v8 v26 v41 z j = k0_pay1 v8 v26 v41 z (ix1 1) := by
  unfold k0_pay3
  generalize k0_pay1 v8 v26 v41 z = n
  pointwise

/-- The two stores of the body, read back. -/
theorem read_putRows (i : grid0.Coords) (arg3 : Memref sig .tc .vmem S16x1 .f32) (harg3 : arg3.IsWhole) (y : Vec F S16x1 .f32)
    (n : FVec F S2 .f32) (p q : Vec F S1x1 .f32) (hp : ∀ j, p j = n (ix1 0)) (hq : ∀ j, q j = n (ix1 1)) (inb1 inb0) :
    View.read (Elt F) arg3.view (arg3.view.writes (Elt F) (harg3.unread y)
      [⟨Rect.unit (s := S16x1) (k0_off2 i 1#32) S1x1.size inb1, q⟩, ⟨Rect.unit (s := S16x1) (k0_off2 i 0#32) S1x1.size inb0, p⟩])
      = putRows i n y := by
  funext k
  have hk1 : (k 1).val < 1 := (k 1).isLt
  unfold putRows
  by_cases h1 : (k 0).val = 2 * (i 0).val + 1
  · rw [if_neg (by omega), if_pos h1]
    refine (View.read_writes_cons_unit_of_mem _ _ inb1 q _ k (fun _ => ⟨0, by decide +revert⟩) (k0_off2_eq i 1) ?_).trans (hq _)
    intro a
    match a with
    | ⟨0, _⟩ => show (k 0).val = 2 * (i 0).val + 1 + 0; omega
    | ⟨1, _⟩ => show (k 1).val = 0 + 0; omega
  · rw [View.read_writes_cons_unit_of_not_mem _ _ inb1 q _ k (k0_off2_eq i 1) 0 (by
      show (k 0).val < 2 * (i 0).val + 1 ∨ 2 * (i 0).val + 1 + 1 ≤ (k 0).val; omega)]
    by_cases h0 : (k 0).val = 2 * (i 0).val
    · rw [if_pos h0]
      refine (View.read_writes_cons_unit_of_mem _ _ inb0 p _ k (fun _ => ⟨0, by decide +revert⟩) (k0_off2_eq i 0) ?_).trans (hp _)
      intro a
      match a with
      | ⟨0, _⟩ => show (k 0).val = 2 * (i 0).val + 0 + 0; omega
      | ⟨1, _⟩ => show (k 1).val = 0 + 0; omega
    · rw [if_neg h0, if_neg h1, View.read_writes_cons_unit_of_not_mem _ _ inb0 p _ k (k0_off2_eq i 0) 0 (by
        show (k 0).val < 2 * (i 0).val + 0 ∨ 2 * (i 0).val + 0 + 1 ≤ (k 0).val; omega)]
      exact congrFun (harg3.read_unread y) k

set_option maxHeartbeats 1000000 in
/-- The body's triple: the inputs' buffers are handed back as they were, the output's with the two scores in its two rows. -/
theorem kernelRun (c : Dev nD) (i : grid0.Coords) (arg1 : Memref sig .tc .vmem S2x1000x512 .f32) (harg1 : arg1.IsWhole) (arg2 : Memref sig .tc .vmem S16x512 .i32) (harg2 : arg2.IsWhole) (arg3 : Memref sig .tc .vmem S16x1 .f32) (harg3 : arg3.IsWhole)
    (x0 : Vec F S2x1000x512 .f32) (x1 : Vec F S16x512 .i32) (y : Vec F S16x1 .f32) (E : Set ℕ) (K : PUnit → sProp 𝕄) :
    iprop(owns (c : Thread nD τ) arg1 fullShare x0 ∗ owns (c : Thread nD τ) arg2 fullShare x1 ∗ owns (c : Thread nD τ) arg3 fullShare y
        ∗ (iprop(owns (c : Thread nD τ) arg1 fullShare x0 ∗ owns (c : Thread nD τ) arg2 fullShare x1
            ∗ owns (c : Thread nD τ) arg3 fullShare (putRows i (blkScore x0 (labelRow i 0 x1) (labelRow i 1 x1)) y)) -∗ K ⟨⟩))
      ⊢ wp frame (wpE (defs₀ (F := F)) Variants.none c none) E (cc0__rouge_body i arg1 harg1 arg2 harg2 arg3 harg3) K := by
  simp only [cc0__rouge_body_eq_skeleton]; unfold cc0__rouge_body_skel
  simp only [k0_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  have e1 : View.readAt (Elt F) arg1.view (Rect.unit (s := S2x1000x512) ![0, 0, 0] S2x1000x512.size inb_S2x1000x512_S2x1000x512_0_0_0).toLoadRect
      (harg1.unread x0) = x0 := (View.readAt_full _ _ _).trans (harg1.read_unread _)
  have e2 := read_labelRow i 0 arg2 harg2 x1 (k0_off1_inb i 0)
  have e3 := read_labelRow i 1 arg2 harg2 x1 (k0_off1_inb i 1)
  refine read_putRows i arg3 harg3 y _ _ _ (fun j => ?_) (fun j => ?_) _ _
  · rw [pay2_apply]
    unfold kernelRun.sl.r kernelRun.sl.r_1 kernelRun.sl.r_2 kernelRun.sl.cst_11 blkScore
    rw [← e2, ← e3, e1]; rfl
  · rw [pay3_apply]
    unfold kernelRun.sl.r kernelRun.sl.r_1 kernelRun.sl.r_2 kernelRun.sl.cst_11 blkScore
    rw [← e2, ← e3, e1]; rfl

end Cert.KernelIdeal.Hand
end
-- ==== Proof.Run.lean ====
module

public import proofs.«01_k».proof.Proof.Body
public import Idealize.ShloMosaic.Lib.Pipeline.ArrRel

/-! The kernel's run: what the output block is known to hold at each grid point, the body obligation, the launch, and
the two claims read off it: the frame, and the output array row by row. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid is one axis of eight points, a point its own coordinate. -/
theorem coord_point : ∀ t : Fin grid0.N, (grid0.coords t 0).val = t.val := by decide +kernel

/-- The two scores of point `t`, from the region's blocks there. -/
def ptScore (c : Dev nD) (t : Fin cfg0.N) : FVec F S2 .f32 :=
  blkScore (iblk m c 0 t) (labelRow (grid0.coords t) 0 (iblk m c 1 t)) (labelRow (grid0.coords t) 1 (iblk m c 1 t))

/-- What is known of an output block after point `t`: the rows of every point so far hold that point's scores. -/
def RowsDone (c : Dev nD) (t : Fin cfg0.N) (X : Vec F S16x1 .f32) : Prop :=
  ∀ (u : Fin cfg0.N) (l : Fin 2) (k : S16x1.Idx), u.val ≤ t.val → (k 0).val = 2 * u.val + l.val → X k = ptScore m c u (ix1 l)

/-- The windows held to a predicate: the output's. -/
def held : Fin 3 → Bool := fun w => w.val == 2

/-- The predicate, window by window. -/
def rel (c : Dev nD) (w : Fin cfg0.W) (t : Fin cfg0.N) (X : (cfg0.win w).block.Idx → Elt F (cfg0.win w).elt) : Prop :=
  match w with
  | ⟨0, _⟩ => True
  | ⟨1, _⟩ => True
  | ⟨2, _⟩ => RowsDone m c t X

/-- The proof data: the arrays as the region finds them, each input's buffer at its block, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- The same with the output held to the predicate. -/
abbrev rdat (c : Dev nD) : RDat τ (Elt F) Unit ℕ (UR sig nD τ) ℕ cfg0 c := (dat m c).toRRel held (rel m c)

/-- The data's arrays are the region's. -/
theorem dat_A (c : Dev nD) (w : Fin cfg0.W) : (dat m c).A w = V m c (Pipeline.arrRef spec0 w) := by dsimp only [dat]
/-- The first input's buffer is left at its block, -/
theorem after_0 (c : Dev nD) (t : Fin cfg0.N) : (dat m c).after 0 t = iblk m c 0 t := by dsimp only [dat]
/-- and so is the second's. -/
theorem after_1 (c : Dev nD) (t : Fin cfg0.N) : (dat m c).after 1 t = iblk m c 1 t := by dsimp only [dat]
/-- The first input's buffer is found at its block, -/
theorem before_0 (c : Dev nD) (t : Fin cfg0.N) (d) : (dat m c).before 0 t d = iblk m c 0 t :=
  before0_0_of m (dat m c) (dat_A m c 0) (after_0 m c) t d
/-- and so is the second's. -/
theorem before_1 (c : Dev nD) (t : Fin cfg0.N) (d) : (dat m c).before 1 t d = iblk m c 1 t :=
  before0_1_of m (dat m c) (dat_A m c 1) (after_1 m c) t d

/-- What the body may find in the output block at point `t`: the rows of the points before it are done. -/
theorem found_rows (c : Dev nD) (t : Fin cfg0.N) (Y : Vec F S16x1 .f32) (hY : (rdat m c).Finds 2 t Y)
    (u : Fin cfg0.N) (l : Fin 2) (k : S16x1.Idx) (hu : u.val < t.val) (hk : (k 0).val = 2 * u.val + l.val) :
    Y k = ptScore m c u (ix1 l) := by
  have ht : t.val ≠ 0 := by omega
  rcases ((rdat m c).finds_of_pos (w := 2) (t := t) rfl ht Y).mp hY with hf | hl
  · have h7 := (flush0_2 ⟨t.val - 1, Nat.lt_of_le_of_lt (Nat.sub_le _ _) t.isLt⟩).mp hf
    have h8 : t.val < 8 := by have := t.isLt; have := N_0; exact this ▸ t.isLt
    simp only at h7
    omega
  · have := (dat m c).toRRel_leaves (fgt := held) (Rl := rel m c) (w := 2) rfl hl
    exact this u l k (by simp only; omega) hk

/-- The rows done before point `t` and the two that it writes are the rows done after it. -/
theorem putRows_done (c : Dev nD) (t : Fin cfg0.N) (Y : Vec F S16x1 .f32) (hY : (rdat m c).Finds 2 t Y) :
    RowsDone m c t (putRows (grid0.coords t) (ptScore m c t) Y) := by
  intro u l k hu hk
  have hl := l.isLt
  unfold putRows
  rw [coord_point t]
  by_cases hut : u.val < t.val
  · rw [if_neg (by omega), if_neg (by omega)]
    exact found_rows m c t Y hY u l k hut hk
  · obtain rfl : u = t := Fin.ext (by omega)
    match l, hl with
    | ⟨0, _⟩, _ => rw [if_pos (by simpa using hk)]; rfl
    | ⟨1, _⟩, _ => rw [if_neg (by simp only at hk; omega), if_pos (by simpa using hk)]; rfl

/-- Each window's current staging memref at a point. -/
abbrev ms_0 (t : Fin cfg0.N) : Memref sig .tc .vmem S2x1000x512 .f32 := win0_0.stage (cfg0.slots t 0)
abbrev ms_1 (t : Fin cfg0.N) : Memref sig .tc .vmem S16x512 .i32 := win0_1.stage (cfg0.slots t 1)
abbrev ms_2 (t : Fin cfg0.N) : Memref sig .tc .vmem S16x1 .f32 := win0_2.stage (cfg0.slots t 2)

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms_0 t) fullShare ((dat m c).before 0 t d))
    ∗ (∃ d, owns (c : Thread nD τ) (ms_1 t) fullShare ((dat m c).before 1 t d))
    ∗ (∃ Y, ⌜(rdat m c).Finds 2 t Y⌝ ∗ owns (c : Thread nD τ) (ms_2 t) fullShare Y))

/-- and what it returns. -/
def bodyPost (c : Dev nD) (t : Fin cfg0.N) : sProp 𝕄 :=
  iprop((dat m c).Φ t.succ ∗ (dat m c).owesAt () t.succ
    ∗ owns (c : Thread nD τ) (ms_0 t) fullShare ((dat m c).after 0 t)
    ∗ owns (c : Thread nD τ) (ms_1 t) fullShare ((dat m c).after 1 t)
    ∗ (∃ X, ⌜RowsDone m c t X⌝ ∗ owns (c : Thread nD τ) (ms_2 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dat m c).Φ t.succ = (dat m c).Φ t.castSucc from rfl,
    show (dat m c).owesAt () t.succ = (dat m c).owesAt () t.castSucc from rfl,
    after_0, after_1]
  iintro ⟨HΦ, Ho, ⟨%d0, H0⟩, ⟨%d1, H1⟩, ⟨%Y, %hY, H2⟩⟩
  iapply (kernelRun c (grid0.coords t) _ _ _ _ _ _ (iblk m c 0 t) (iblk m c 1 t) Y Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexists _
  isplitr; swap; · iexact H2
  ipureintro
  exact putRows_done m c t Y hY

/-- The body table's row at point `t`'s slots is the body there. -/
theorem body_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) :
    BodyObligationRel (dat (F := F) m c) (defs₀ (F := F)) Variants.none () Set.univ held (rel m c) := fun t => by
  rw [bigSep_W0, bigSep_W0, body_row]
  exact triple_restated (sound_body m c t) rfl .rfl fun _ => .rfl

set_option backward.isDefEq.respectTransparency.types false in
/-- The launch: every execution ends, with the arrays as the data say and every counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dat m c).share_full fun _ => rfl)
    (howed := fun _ _ => rfl) (V := V m) (hmain := hmain m Variants.none) (hA := fun c w => dat_A m c w) (hΦ := fun _ _ => rfl)

/-- The frame: the argument arrays end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in h.1 c 1 rfl).trans ((dat_A m c 1).trans (V_main_arg1 m c))⟩, h.2⟩) (run_main m ρ)

/-- The last point writes the whole output back, and no other point does. -/
theorem whole_last : (cfg0.win 2).WholeAt (t0_7 : Fin cfg0.N) :=
  (by decide +kernel : win0_2.WholeAt t0_7)

/-- The result: row `2 u + l` of the output array ends at score `l` of point `u`, and the argument arrays end as they began. -/
theorem result : θ_run defs (onTc (τ := τ) (main (F := F))) ⟨m, fun _ => 0, ρ⟩ (fun r => ∀ c : Dev nD,
    (∀ (u : Fin cfg0.N) (l : Fin 2) (k : S16x1.Idx), (k 0).val = 2 * u.val + l.val →
      r.2.mem ((c.tc : Thread nD τ).loc main_v1) k = ptScore m c u (ix1 l))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨fun u l k hk => by
    obtain ⟨X, hX, hG⟩ := Pipeline.RDat.ArrAt.emb_eq_of_wholeAt ((h.1 c).1 2) whole_last
    have hd := (dat m c).toRRel_leaves (fgt := held) (Rl := rel m c) (w := 2) rfl hX
    exact (hG k).trans (hd u l k (by have h8 : u.val < grid0.N := u.isLt; rw [N_0] at h8; show u.val ≤ 7; omega) hk),
    ((h.1 c).2 main_arg0 (Pipeline.mem_restRefs_of main_arg0 (by decide) (by decide))).trans (V_main_arg0 m c),
    (Pipeline.RDat.FramePost.arr_in h.1 c 1 rfl).trans ((dat_A m c 1).trans (V_main_arg1 m c))⟩) (run_main m ρ)

end Cert.KernelIdeal.Hand
end
-- ==== Proof.Math.lean ====
module

public import Idealize.ShloMosaic.Lib.Pointwise

/-! The mathematics over the extended reals that the two programs share: the probabilities are the same with and without
the row maximum subtracted, and the matched mass summed over labels weighted by how often each occurs is the matched mass
summed over the positions. -/

@[expose] public section

noncomputable section

namespace Rouge

open Idealize.ShloMosaic

/-- The greatest of finitely many extended reals. -/
abbrev top {n : ℕ} (f : Fin n → EReal) : EReal := Finset.univ.fold max ⊥ f

/-- Each member is at most the greatest. -/
theorem le_top {n : ℕ} (f : Fin n → EReal) (i : Fin n) : f i ≤ top f :=
  ((Finset.fold_max_le (top f)).mp le_rfl).2 i (Finset.mem_univ i)

/-- The greatest of members below `+inf` is below `+inf`. -/
theorem top_lt {n : ℕ} (f : Fin n → EReal) (h : ∀ i, f i < ⊤) : top f < ⊤ :=
  (Finset.fold_max_lt _).mpr ⟨bot_lt_top, fun i _ => h i⟩

/-- If the greatest is above `-inf`, some member is. -/
theorem exists_of_top {n : ℕ} (f : Fin n → EReal) (h : ⊥ < top f) : ∃ i, ⊥ < f i := by
  rcases (Finset.lt_fold_max _).mp h with h | ⟨i, _, hi⟩
  · exact absurd h (lt_irrefl _)
  · exact ⟨i, hi⟩

/-- A finite sum of reals, as an extended real. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- The exponential of an extended real below `+inf` is a nonnegative real, positive if the argument is above `-inf`. -/
theorem exp_real (x : EReal) (h : x < ⊤) : ∃ e : ℝ, Ideal.exp x = (e : EReal) ∧ 0 ≤ e ∧ (⊥ < x → 0 < e) := by
  induction x with
  | bot => exact ⟨0, Ideal.exp_bot, le_rfl, fun h => absurd h (lt_irrefl _)⟩
  | coe r => exact ⟨Real.exp r, rfl, (Real.exp_pos r).le, fun _ => Real.exp_pos r⟩
  | top => exact absurd h (lt_irrefl _)

/-- Subtracting a real from the exponent multiplies the exponential by a constant. -/
theorem exp_sub (x : EReal) (h : x < ⊤) (m : ℝ) : Ideal.exp (x - (m : EReal)) = Ideal.exp x * ((Real.exp (-m) : ℝ) : EReal) := by
  induction x with
  | bot => rw [EReal.bot_sub, Ideal.exp_bot, zero_mul]
  | coe r =>
    rw [← EReal.coe_sub]
    show ((Real.exp (r - m) : ℝ) : EReal) = ((Real.exp r : ℝ) : EReal) * _
    rw [← EReal.coe_mul, ← Real.exp_add, sub_eq_add_neg]
  | top => exact absurd h (lt_irrefl _)

/-- A row's probabilities without the maximum subtracted. -/
def prob {n : ℕ} (x : Fin n → EReal) (v : Fin n) : EReal := Ideal.exp (x v) * Ideal.div 1 (∑ u, Ideal.exp (x u))

/-- A row's probabilities with the maximum subtracted. -/
def softmax {n : ℕ} (x : Fin n → EReal) (v : Fin n) : EReal :=
  Ideal.div (Ideal.exp (x v - top x)) (∑ u, Ideal.exp (x u - top x))

/-- The exponentials of a row below `+inf` whose maximum is above `-inf`: nonnegative reals of positive sum. -/
theorem exp_row {n : ℕ} (x : Fin n → EReal) (h : ∀ v, x v < ⊤) (hm : ⊥ < top x) :
    ∃ e : Fin n → ℝ, (∀ v, Ideal.exp (x v) = (e v : EReal)) ∧ (∀ v, 0 ≤ e v) ∧ 0 < ∑ v, e v := by
  choose e he h0 hp using fun v => exp_real (x v) (h v)
  obtain ⟨i, hi⟩ := exists_of_top x hm
  exact ⟨e, he, h0, Finset.sum_pos' (fun v _ => h0 v) ⟨i, Finset.mem_univ i, hp i hi⟩⟩

/-- The two probabilities agree on a row below `+inf` whose maximum is above `-inf`. -/
theorem softmax_eq_prob {n : ℕ} (x : Fin n → EReal) (h : ∀ v, x v < ⊤) (hm : ⊥ < top x) (v : Fin n) : softmax x v = prob x v := by
  obtain ⟨e, he, h0, hS⟩ := exp_row x h hm
  obtain ⟨r, hr⟩ : ∃ r : ℝ, top x = (r : EReal) :=
    ⟨(top x).toReal, (EReal.coe_toReal (top_lt x h).ne hm.ne').symm⟩
  have hc : 0 < Real.exp (-r) := Real.exp_pos _
  unfold softmax prob
  simp only [hr, exp_sub _ (h _) r, he, ← EReal.coe_mul, coe_sum]
  rw [← Finset.sum_mul, Ideal.div_coe (mul_ne_zero hS.ne' hc.ne'), Ideal.div_coe hS.ne', one_mul, ← EReal.coe_mul, ← EReal.coe_mul]
  congr 1
  field_simp

/-- The probabilities are nonnegative. -/
theorem prob_nonneg {n : ℕ} (x : Fin n → EReal) (h : ∀ v, x v < ⊤) (hm : ⊥ < top x) (v : Fin n) : 0 ≤ prob x v := by
  obtain ⟨e, he, h0, hS⟩ := exp_row x h hm
  unfold prob
  simp only [he, coe_sum]
  rw [Ideal.div_coe hS.ne', one_mul, ← EReal.coe_mul]
  exact EReal.coe_nonneg.mpr (mul_nonneg (h0 v) (by positivity))

/-- A nonnegative factor moves into a sum of nonnegative terms. -/
theorem mul_sum_nonneg {n : ℕ} (a : EReal) (f : Fin n → EReal) (hf : ∀ i, 0 ≤ f i) : a * ∑ i, f i = ∑ i, a * f i := by
  induction n with
  | zero => simp
  | succ n ih =>
    rw [Fin.sum_univ_succ, Fin.sum_univ_succ, EReal.left_distrib_of_nonneg (hf 0) (Finset.sum_nonneg fun i _ => hf i.succ),
      ih _ fun i => hf i.succ]

variable {n k : ℕ}

/-- How many positions carry a label. -/
def count (lab : Fin n → Fin k) (v : Fin k) : EReal := ∑ t, if lab t = v then 1 else 0

/-- A sum over the positions is the sum over the labels, each weighted by how many positions carry it. -/
theorem sum_count (lab : Fin n → Fin k) (g : Fin k → EReal) : ∑ v, g v * count lab v = ∑ t, g (lab t) := by
  unfold count
  have h0 : ∀ v t, (0 : EReal) ≤ if lab t = v then 1 else 0 := fun v t => by split_ifs <;> simp
  simp only [fun v => mul_sum_nonneg (g v) _ (h0 v), mul_ite, mul_one, mul_zero]
  rw [Finset.sum_comm]
  exact Finset.sum_congr rfl fun t _ => Finset.sum_ite_eq Finset.univ (lab t) g |>.trans (if_pos (Finset.mem_univ _))

/-- A label's count is positive exactly if some position carries it. -/
theorem count_pos (lab : Fin n → Fin k) (v : Fin k) : 0 < count lab v ↔ ∃ t, lab t = v := by
  have h0 : ∀ t, (0 : EReal) ≤ if lab t = v then 1 else 0 := fun t => by split_ifs <;> simp
  constructor
  · intro h
    by_contra hne
    rw [not_exists] at hne
    exact absurd h (by unfold count; simp [hne])
  · rintro ⟨t, ht⟩
    refine lt_of_lt_of_le ?_ (Finset.single_le_sum (fun t _ => h0 t) (Finset.mem_univ t))
    rw [if_pos ht]; exact zero_lt_one

/-- The greatest over the labels present, `-1` standing for an absent one, is the greatest over the positions. -/
theorem top_present (lab : Fin n → Fin k) (f : Fin k → EReal) (h0 : ∀ v, 0 ≤ f v) (hn : 0 < n) :
    top (fun v => if 0 < count lab v then f v else -1) = top fun t => f (lab t) := by
  refine le_antisymm ?_ ?_
  · refine (Finset.fold_max_le _).mpr ⟨bot_le, fun v _ => ?_⟩
    split_ifs with hv
    · obtain ⟨t, rfl⟩ := (count_pos lab v).mp hv
      exact le_top (fun t => f (lab t)) t
    · exact (by simp : (-1 : EReal) ≤ 0).trans ((h0 _).trans (le_top (fun t => f (lab t)) ⟨0, hn⟩))
  · refine (Finset.fold_max_le _).mpr ⟨bot_le, fun t _ => ?_⟩
    refine le_trans ?_ (le_top (fun v => if 0 < count lab v then f v else -1) (lab t))
    rw [if_pos ((count_pos lab _).mpr ⟨t, rfl⟩)]

/-- The matched mass by labels: `p s v` counted where it is greatest over the positions for its label and over the labels
present for its position. -/
def byLabel (p : Fin n → Fin k → EReal) (lab : Fin n → Fin k) : EReal :=
  ∑ v, (∑ s, if p s v = top (fun s' => p s' v) ∧ p s v = top (fun v' => if 0 < count lab v' then p s v' else -1) then p s v else 0) * count lab v

/-- The matched mass by positions: of the matrix `p s (lab t)`, the entries greatest in their row and in their column. -/
def byPosition (p : Fin n → Fin k → EReal) (lab : Fin n → Fin k) : EReal :=
  ∑ t, ∑ s, p s (lab t) * (if p s (lab t) = top (fun s' => p s' (lab t)) then 1 else 0)
    * (if p s (lab t) = top (fun t' => p s (lab t')) then 1 else 0)

/-- The two matched masses are equal. -/
theorem byLabel_eq (p : Fin n → Fin k → EReal) (lab : Fin n → Fin k) (h0 : ∀ s v, 0 ≤ p s v) (hn : 0 < n) :
    byLabel p lab = byPosition p lab := by
  unfold byLabel byPosition
  simp only [fun s => top_present lab (p s) (h0 s) hn]
  rw [sum_count]
  refine Finset.sum_congr rfl fun t _ => Finset.sum_congr rfl fun s _ => ?_
  by_cases h1 : p s (lab t) = top (fun s' => p s' (lab t)) <;> by_cases h2 : p s (lab t) = top (fun t' => p s (lab t'))
  · rw [if_pos ⟨h1, h2⟩, if_pos h1, if_pos h2, mul_one, mul_one]
  · rw [if_neg (fun h => h2 h.2), if_neg h2, mul_zero]
  · rw [if_neg (fun h => h1 h.1), if_neg h1, mul_zero, zero_mul]
  · rw [if_neg (fun h => h1 h.1), if_neg h1, mul_zero, zero_mul]

/-- Twice a value over 1024 is the value times 1/512. -/
theorem two_div (x : EReal) : Ideal.div (2 * x) ((1024 : ℝ) : EReal) = x * ((1 / 512 : ℝ) : EReal) := by
  rw [Ideal.div_coe (by norm_num), mul_comm 2 x, mul_assoc]
  congr 1
  rw [show (2 : EReal) = ((2 : ℝ) : EReal) from rfl, ← EReal.coe_mul]
  norm_num

end Rouge
end
-- ==== Proof.KernelValue.lean ====
module

public import proofs.«01_k».proof.Proof.Run
public import proofs.«01_k».proof.Proof.Math

/-! What a grid point computes, over the extended reals: the matched mass by labels of each of its two rows, times 1/512. -/

@[expose] public section

set_option maxRecDepth 16384

noncomputable section

namespace Cert.KernelIdeal.Hand

open Idealize.ShloMosaic
open Cert.KernelIdeal.Gen

/-- The literal the label maximum starts from is `-inf`. -/
theorem lit_neg_inf : Ideal.ofBits .f32 4286578688#32 = ⊥ := by
  simp [Ideal.ofBits, Ideal.ieee, -EReal.coe_mul]

/-- The literal standing for an absent label is `-1`. -/
theorem lit_neg_one : Ideal.ofBits .f32 3212836864#32 = -1 := by
  simp [Ideal.ofBits, Ideal.ieee, -EReal.coe_mul]; try norm_num

/-- The final factor is 1/512. -/
theorem lit_scale : Ideal.ofBits .f32 989855744#32 = ((1 / 512 : ℝ) : EReal) := by
  simp [Ideal.ofBits, Ideal.ieee, -EReal.coe_mul]; try norm_num

/-- The probabilities of a block, element by element. -/
theorem pay4_apply (x : Vec Ideal S2x1000x512 .f32) (b : Fin 2) (v : Fin 1000) (s : Fin 512) :
    k0_pay4 x (ix3 b v s) = Rouge.prob (fun u => x (ix3 b u s)) v := by
  unfold Rouge.prob
  pointwise [k0_pay4]

/-- Whether two label words are equal, as a number. -/
theorem indicator (a v : Fin 1000) : (FloatOps.sitofp FTy.f32 (BitVec.setWidth 32 (IntOp.cmpi .eq (BitVec.ofNat 32 a.val) (BitVec.ofNat 32 v.val))) : Ideal .f32)
    = if a = v then 1 else 0 := by
  by_cases h : a = v
  · subst h
    have hb : BitVec.setWidth 32 (IntOp.cmpi .eq (BitVec.ofNat 32 a.val) (BitVec.ofNat 32 a.val)) = 1#32 := by simp [IntOp.cmpi]
    rw [if_pos rfl, hb]
    show (((1#32).toInt : ℝ) : EReal) = 1
    norm_num
  · have hne : BitVec.ofNat 32 a.val ≠ BitVec.ofNat 32 v.val := by
      intro he
      apply h
      have := congrArg BitVec.toNat he
      simp only [BitVec.toNat_ofNat] at this
      ext; omega
    have hb : BitVec.setWidth 32 (IntOp.cmpi .eq (BitVec.ofNat 32 a.val) (BitVec.ofNat 32 v.val)) = 0#32 := by
      simp only [IntOp.cmpi, beq_eq_false_iff_ne.mpr hne]; rfl
    rw [if_neg h, hb]
    show (((0#32).toInt : ℝ) : EReal) = 0
    norm_num

/-- Selecting by two tests at once. -/
theorem select_both (A B : Prop) [Decidable A] [Decidable B] (a b : Ideal .f32) :
    Scalar.select (IntOp.andi (BitVec.ofBool (decide A)) (BitVec.ofBool (decide B))) a b = if A ∧ B then a else b := by
  by_cases hA : A <;> by_cases hB : B <;> simp [hA, hB, Scalar.select, IntOp.andi]

section
variable (x : Vec Ideal S2x1000x512 .f32) (l0 l1 : Vec Ideal S1x512 .i32) (lab : Fin 2 → Fin 512 → Fin 1000)
  (h0 : ∀ t, l0 (ix2 0 t) = BitVec.ofNat 32 (lab 0 t).val) (h1 : ∀ t, l1 (ix2 0 t) = BitVec.ofNat 32 (lab 1 t).val)
include h0 h1

/-- The counts of a block, element by element. -/
theorem pay5_apply (b : Fin 2) (v : Fin 1000) (z : Fin 1) : k0_pay5 (F := Ideal) l0 l1 (ix3 b v z) = Rouge.count (lab b) v := by
  have hl : ∀ t, (if (b : ℕ) < 1 then l0 (ix2 0 t) else l1 (ix2 0 t)) = BitVec.ofNat 32 (lab b t).val := by
    intro t
    fin_cases b
    · exact h0 t
    · exact h1 t
  unfold Rouge.count
  have hi := fun t => indicator (lab b t) v
  pointwise [k0_pay5]
  refine Finset.sum_congr rfl fun t _ => ?_
  rw [← hi t, ← hl t]
  rfl

/-- The selected entries of a block, element by element. -/
theorem pay6_apply (b : Fin 2) (v : Fin 1000) (s : Fin 512) :
    k0_pay6 (F := Ideal) x l0 l1 (ix3 b v s)
      = IntOp.andi
        (BitVec.ofBool (decide (k0_pay4 x (ix3 b v s) = Rouge.top fun s' => k0_pay4 x (ix3 b v s'))))
        (BitVec.ofBool (decide (k0_pay4 x (ix3 b v s) = Rouge.top fun v' =>
          if 0 < Rouge.count (lab b) v' then k0_pay4 x (ix3 b v' s) else -1))) := by
  have hc := fun v' => pay5_apply l0 l1 lab h0 h1 b v' 0
  revert hc
  unfold k0_pay6
  generalize k0_pay4 (F := Ideal) x = p
  generalize k0_pay5 (F := Ideal) l0 l1 = c
  intro hc
  unfold Rouge.top
  pointwise
  simp only [hc, lit_neg_inf, lit_neg_one]

/-- A block's row scores. -/
theorem blkScore_apply (b : Fin 2) : blkScore x l0 l1 (ix1 b)
    = Rouge.byLabel (fun s v => Rouge.prob (fun u => x (ix3 b u s)) v) (lab b) * ((1 / 512 : ℝ) : EReal) := by
  have hc := fun v z => pay5_apply l0 l1 lab h0 h1 b v z
  have hs := fun v s => pay6_apply x l0 l1 lab h0 h1 b v s
  have hp := fun v s => pay4_apply x b v s
  simp only [hp] at hs
  unfold blkScore
  revert hc hs hp
  generalize k0_pay4 (F := Ideal) x = p
  generalize k0_pay5 (F := Ideal) l0 l1 = c
  generalize k0_pay6 (F := Ideal) x l0 l1 = sel
  intro hc hs hp
  have hz : (FloatOps.ofBits .f32 0#32 : Ideal .f32) = 0 := by simp [Ideal.ofBits, Ideal.ieee]
  rw [hz]
  unfold Rouge.byLabel
  pointwise [k0_pay1]
  simp only [hc, hs, hp, lit_scale, Finset.univ_unique, Finset.sum_singleton]
  congr 1
  refine Finset.sum_congr rfl fun v _ => ?_
  congr 1
  refine Finset.sum_congr rfl fun s _ => ?_
  exact select_both _ _ _ _

end

end Cert.KernelIdeal.Hand
end
-- ==== Proof.KernelBlocks.lean ====
module

public import proofs.«01_k».proof.Proof.KernelValue
public import Idealize.ShloMosaic.Lib.Claim
public import Idealize.ShloMosaic.Lib.Pipeline.ValueKit.Point

/-! The kernel's result, over the extended reals, in terms of the arrays at launch. -/

@[expose] public section

set_option maxRecDepth 16384

noncomputable section

namespace Cert.KernelIdeal.Hand

open Idealize.ShloMosaic Idealize.ShloMosaic.TcCoe
open Cert.KernelIdeal.Gen

variable (m : (ℓ : Loc nD τ sig) → Buf (Elt Ideal) ℓ) (c : Dev nD)

/-- The window over the transposed logits moves along the grid on its first axis. -/
theorem index_logits : ∀ t : Fin grid0.N, win0_0.index t = ![t.val, 0, 0] := by decide +kernel

/-- The window over the labels stays. -/
theorem index_labels : ∀ t : Fin grid0.N, win0_1.index t = ![0, 0] := by decide +kernel

/-- A point's logits block: rows `2t` and `2t+1` of the logits, transposed. -/
theorem logits_apply (t : Fin cfg0.N) (b : Fin 2) (v : Fin 1000) (s : Fin 512) (r : Fin 16) (hr : r.val = 2 * t.val + b.val) :
    iblk m c 0 t (ix3 b v s) = m ((c : Thread nD τ).loc main_arg0) (ix3 r s v) := by
  have e := index_logits t
  have hv : V m c main_v0 (ix3 r v s) = m ((c : Thread nD τ).loc main_arg0) (ix3 r s v) := by
    entry_read
    pointwise
  rw [← hv]
  blk_ext [iblk, e]

/-- A point's labels block: all the labels. -/
theorem labels_apply (t : Fin cfg0.N) (r : Fin 16) (s : Fin 512) :
    iblk m c 1 t (ix2 r s) = m ((c : Thread nD τ).loc main_arg1) (ix2 r s) := by
  have e := index_labels t
  blk_ext [iblk, V, e]

/-- Row `r` of the result: the matched mass by labels of batch `r`, times 1/512. -/
theorem ptScore_apply (t : Fin cfg0.N) (b : Fin 2) (r : Fin 16) (hr : r.val = 2 * t.val + b.val) (lab : Fin 16 → Fin 512 → Fin 1000)
    (hl : ∀ r t, m ((c : Thread nD τ).loc main_arg1) (ix2 r t) = BitVec.ofNat 32 (lab r t).val) :
    ptScore m c t (ix1 b) = Rouge.byLabel (fun s v => Rouge.prob (fun u => m ((c : Thread nD τ).loc main_arg0) (ix3 r s u)) v) (lab r)
      * ((1 / 512 : ℝ) : EReal) := by
  have hN : t.val < 8 := by
    have h8 : t.val < grid0.N := t.isLt
    rw [N_0] at h8; exact h8
  have hrow : ∀ (k : Fin 2) (z : Fin 1) (s : Fin 512), labelRow (grid0.coords t) k (iblk m c 1 t) (ix2 z s)
      = BitVec.ofNat 32 (lab ⟨2 * t.val + k.val, by omega⟩ s).val := by
    intro k z s
    rw [← hl, ← labels_apply m c t]
    unfold labelRow
    congr 1
    funext a
    match a with
    | ⟨0, _⟩ => exact Fin.ext (by show 2 * (grid0.coords t 0).val + k.val = _; rw [coord_point]; rfl)
    | ⟨1, _⟩ => rfl
  have hr' : r = ⟨2 * t.val + b.val, by omega⟩ := Fin.ext hr
  unfold ptScore
  rw [blkScore_apply _ _ _ (fun k => lab ⟨2 * t.val + k.val, by omega⟩) (hrow 0 0) (hrow 1 0) b]
  simp only [logits_apply m c t b _ _ r hr]
  rw [← hr']

end Cert.KernelIdeal.Hand
end
-- ==== Proof.RefValue.lean ====
module

public import proofs.«01_k».proof.Proof.Gen.ReferenceIdeal.Read
public import proofs.«01_k».proof.Proof.Math
public import Idealize.ShloMosaic.Lib.StableHlo.Predicate

/-! The reference's result over the extended reals: twice the matched mass by positions of each batch, over 1024. -/

@[expose] public section

set_option maxRecDepth 16384

noncomputable section

namespace Cert.ReferenceIdeal.Hand

open Idealize.ShloMosaic
open Idealize.ShloMosaic.StableHlo.Predicate (toInt_ofNat_small sle_ofNat_iff)
open Cert.ReferenceIdeal Cert.ReferenceIdeal.Read Cert.ReferenceIdeal.Gen

/-- The literal the maxima start from is `-inf`. -/
theorem lit_neg_inf : Ideal.ofBits .f32 4286578688#32 = ⊥ := by
  simp [Ideal.ofBits, Ideal.ieee, -EReal.coe_mul]

/-- The literal two. -/
theorem lit_two : Ideal.ofBits .f32 1073741824#32 = 2 := by
  have h : Ideal.ofBits .f32 1073741824#32 = ((2 : ℝ) : EReal) := by
    simp [Ideal.ofBits, Ideal.ieee, -EReal.coe_mul]; norm_num
  rw [h]; rfl

/-- The maxima over the labels, element by element. -/
theorem v0_apply (x : FVec Ideal S16x512x1000 .f32) (b : Fin 16) (s : Fin 512) :
    val_main_v0 (F := Ideal) x (ix2 b s) = Rouge.top fun v => x (ix3 b s v) := by
  have h := lit_neg_inf
  unfold val_main_v0 Rouge.top
  rw [← h]
  pointwise [val_main_cst]

/-- The maxima again, after another maximum with `-inf`. -/
theorem v2_apply (x : FVec Ideal S16x512x1000 .f32) (b : Fin 16) (s : Fin 512) :
    val_main_v2 (F := Ideal) x (ix2 b s) = Rouge.top fun v => x (ix3 b s v) := by
  rw [val_main_v2_apply, v0_apply, val_main_v1_apply]
  unfold val_main_cst_0
  show max (Ideal.ofBits .f32 4286578688#32) _ = _
  rw [lit_neg_inf, bot_sup_eq]

/-- The probabilities, element by element. -/
theorem v10_apply (x : FVec Ideal S16x512x1000 .f32) (b : Fin 16) (s : Fin 512) (v : Fin 1000) :
    val_main_v10 (F := Ideal) x (ix3 b s v) = Rouge.softmax (fun u => x (ix3 b s u)) v := by
  have h2 := v2_apply x b s
  revert h2
  unfold val_main_v10 val_main_v9 val_main_v8 val_main_v7 val_main_v6 val_main_v5 val_main_v4 val_main_v3 Rouge.softmax
  generalize val_main_v2 (F := Ideal) x = p
  intro h2
  pointwise [val_main_cst_1]
  rw [h2]

/-- The probabilities transposed, element by element. -/
theorem v11_apply (x : FVec Ideal S16x512x1000 .f32) (b : Fin 16) (v : Fin 1000) (s : Fin 512) :
    val_main_v11 (F := Ideal) x (ix3 b v s) = Rouge.softmax (fun u => x (ix3 b s u)) v := by
  rw [← v10_apply]
  unfold val_main_v11
  generalize val_main_v10 (F := Ideal) x = p
  pointwise

/-- The gather: at `(b, t, s)`, the operand at batch `b`, the row the start index `(b, t)` names, and place `s`. -/
theorem gather_apply (x : FVec Ideal S16x1000x512 .f32) (i : IVec S16x512x1 32) (b : Fin 16) (t s : Fin 512) (r : Fin 1000)
    (hr : r.val = min (i (ix3 b t 0)).toInt.toNat 999) :
    Host.gather gather_S16x1000x512_S16x512x1_S16x512x512_2_1_0_0_1_2_11512 x i (ix3 b t s) = x (ix3 b r s) := by
  unfold Host.gather
  congr 1
  funext a
  refine Fin.ext ?_
  show GatherDims.start gather_S16x1000x512_S16x512x1_S16x512x512_2_1_0_0_1_2_11512 (ix3 b t s) i a
    + GatherDims.batchCoord gather_S16x1000x512_S16x512x1_S16x512x512_2_1_0_0_1_2_11512 (ix3 b t s) a
    + GatherDims.offCoord gather_S16x1000x512_S16x512x1_S16x512x512_2_1_0_0_1_2_11512 (ix3 b t s) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S16x1000x512_S16x512x1_S16x512x512_2_1_0_0_1_2_11512.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16x1000x512_S16x512x1_S16x512x512_2_1_0_0_1_2_11512.startIndexMap from List.mem_singleton.mpr rfl)]
    have hsi : gather_S16x1000x512_S16x512x1_S16x512x512_2_1_0_0_1_2_11512.siIdx (ix3 b t s)
        ⟨List.idxOf (1 : Fin 3) gather_S16x1000x512_S16x512x1_S16x512x512_2_1_0_0_1_2_11512.startIndexMap,
        List.idxOf_lt_length_iff.2 (List.mem_singleton.mpr rfl)⟩ = ix3 b t 0 := by
      funext z; refine Fin.ext ?_
      match z with
      | ⟨0, _⟩ => rfl
      | ⟨1, _⟩ => rfl
      | ⟨2, _⟩ => rfl
    rw [hsi]
    exact hr.symm
  · rw [GatherDims.batchCoord_eq_zero _ _ _ (fun h => absurd (List.mem_singleton.mp h) (by decide))]
    unfold GatherDims.start GatherDims.offCoord
    rw [dif_neg (show (2 : Fin 3) ∉ gather_S16x1000x512_S16x512x1_S16x512x512_2_1_0_0_1_2_11512.startIndexMap from fun h => absurd (List.mem_singleton.mp h) (by decide)),
      dif_pos ((GatherDims.mem_sKept (d := gather_S16x1000x512_S16x512x1_S16x512x512_2_1_0_0_1_2_11512) (a := (2 : Fin 3))).mpr
      ⟨fun h => absurd (List.mem_singleton.mp h) (by decide), fun h => absurd (List.mem_singleton.mp h) (by decide)⟩)]
    simp only [Nat.zero_add]
    rfl

/-- A label word in range is not below zero, -/
theorem not_slt (n : ℕ) (h : n < 1000) : IntOp.cmpi .slt (BitVec.ofNat 32 n) 0#32 = 0#1 := by
  have hs : (BitVec.ofNat 32 n).slt 0#32 = false := by
    rw [BitVec.slt, toInt_ofNat_small n (by omega)]
    exact decide_eq_false (by show ¬ (n : ℤ) < 0; omega)
  show BitVec.ofBool ((BitVec.ofNat 32 n).slt 0#32) = 0#1
  rw [hs]; rfl

/-- is at least zero, -/
theorem sge (n : ℕ) (h : n < 1000) : IntOp.cmpi .sge (BitVec.ofNat 32 n) 0#32 = 1#1 :=
  (sle_ofNat_iff 0 n (by omega) (by omega)).mpr (Nat.zero_le n)

/-- and is at most 999. -/
theorem sle (n : ℕ) (h : n < 1000) : IntOp.cmpi .sle (BitVec.ofNat 32 n) 999#32 = 1#1 :=
  (sle_ofNat_iff n 999 (by omega) (by omega)).mpr (by omega)

/-- Its value as a clamped start index is itself. -/
theorem clamp (n : ℕ) (h : n < 1000) : n = min (BitVec.ofNat 32 n).toInt.toNat 999 := by
  rw [toInt_ofNat_small n (by omega), Int.toNat_natCast]; omega

section
variable (x : FVec Ideal S16x512x1000 .f32) (l : IVec S16x512 32) (lab : Fin 16 → Fin 512 → Fin 1000)
  (hl : ∀ b t, l (ix2 b t) = BitVec.ofNat 32 (lab b t).val)
include hl

/-- The start indices are the labels. -/
theorem start_apply (b : Fin 16) (t : Fin 512) (z : Fin 1) :
    val_main_call0_v5 (F := Ideal) l (ix3 b t z) = BitVec.ofNat 32 (lab b t).val := by
  have h : val_main_call0_v5 (F := Ideal) l (ix3 b t z)
      = Scalar.select (IntOp.cmpi .slt (l (ix2 b t)) 0#32) (IntOp.addi (l (ix2 b t)) 1000#32) (l (ix2 b t)) := by
    pointwise [val_main_call0_v5, val_main_call0_v4, val_main_call0_v3, val_main_call0_v1, val_main_call0_v2, val_main_call0_c_0, val_main_call0_v0, val_main_call0_c]
  rw [h, hl, not_slt _ (lab b t).isLt]
  rfl

/-- Every start index is in range. -/
theorem mask_apply (b : Fin 16) (t s : Fin 512) : val_main_call0_v14 (F := Ideal) l (ix3 b t s) = 1#1 := by
  have h5 := start_apply l lab hl b t
  revert h5
  unfold val_main_call0_v14 val_main_call0_v12 val_main_call0_v11 val_main_call0_v10 val_main_call0_v7
  generalize val_main_call0_v5 (F := Ideal) l = q
  intro h5
  pointwise [val_main_call0_v9, val_main_call0_v8, val_main_call0_v6, val_main_call0_c_1, val_main_call0_c_2, val_main_call0_c_3]
  simp only [h5, sge _ (lab b t).isLt, sle _ (lab b t).isLt]
  rfl

/-- The probabilities of the labels, position by position. -/
theorem v12_apply (b : Fin 16) (t s : Fin 512) :
    val_main_v12 (F := Ideal) x l (ix3 b t s) = Rouge.softmax (fun u => x (ix3 b s u)) (lab b t) := by
  rw [val_main_v12_apply, mask_apply l lab hl]
  show val_main_call0_v13 (F := Ideal) x l (ix3 b t s) = _
  unfold val_main_call0_v13
  rw [gather_apply _ _ b t s (lab b t) (by rw [start_apply l lab hl]; exact clamp _ (lab b t).isLt), v11_apply]

end

/-- A test, as a number. -/
theorem indicator (A : Prop) [Decidable A] : (FloatOps.uitofp FTy.f32 (BitVec.ofBool (decide A)) : Ideal .f32) = if A then 1 else 0 := by
  by_cases h : A
  · rw [if_pos h, decide_eq_true h]
    show (((1 : ℕ) : ℝ) : EReal) = 1
    norm_num
  · rw [if_neg h, decide_eq_false h]
    show (((0 : ℕ) : ℝ) : EReal) = 0
    norm_num

/-- The number of positions of both sides, 512 + 512. -/
theorem lengths : (FloatOps.sitofp FTy.f32 (Finset.fold IntOp.addi 0#32 (fun _ => IntOp.addi (IntOp.subi 512#32 1#32) 1#32) (Finset.univ : Finset (Fin 2))) : Ideal .f32)
    = ((1024 : ℝ) : EReal) := by
  have h : Finset.fold IntOp.addi 0#32 (fun _ => IntOp.addi (IntOp.subi 512#32 1#32) 1#32) (Finset.univ : Finset (Fin 2)) = 1024#32 := by decide +kernel
  rw [h]
  show (((1024 : ℤ) : ℝ) : EReal) = _
  norm_num

/-- The result from the matrix of the labels' probabilities. -/
theorem v36_of (x : FVec Ideal S16x512x1000 .f32) (l : IVec S16x512 32) (b : Fin 16) (z : Fin 1) (q : Fin 512 → Fin 512 → EReal)
    (hq : ∀ t s, val_main_v12 (F := Ideal) x l (ix3 b t s) = q t s) :
    val_main_v36 (F := Ideal) x l (ix2 b z) = Ideal.div (2 * ∑ t, ∑ s, q t s * (if q t s = Rouge.top (fun s' => q t s') then 1 else 0)
      * (if q t s = Rouge.top (fun t' => q t' s) then 1 else 0)) ((1024 : ℝ) : EReal) := by
  revert hq
  unfold val_main_v36 val_main_v32 val_main_v26 val_main_v25 val_main_v24 val_main_v23 val_main_v22 val_main_v21 val_main_v20 val_main_v19 val_main_v18 val_main_v17 val_main_v16 val_main_v15 val_main_v14 val_main_v13
  generalize val_main_v12 (F := Ideal) x l = p
  intro hq
  rw [← lit_two, ← lengths]
  simp only [← hq, ← indicator, ← lit_neg_inf, Rouge.top]
  pointwise [val_main_cst_2, val_main_cst_3, val_main_cst_4, val_main_v31, val_main_cst_7, val_main_v35, val_main_v34, val_main_v33, val_main_v30, val_main_v28, val_main_v27, val_main_v29, val_main_c, val_main_c_5, val_main_c_6, val_main_c_8]

/-- The reference's row `b`. -/
theorem v36_apply (x : FVec Ideal S16x512x1000 .f32) (l : IVec S16x512 32) (lab : Fin 16 → Fin 512 → Fin 1000)
    (hl : ∀ b t, l (ix2 b t) = BitVec.ofNat 32 (lab b t).val) (b : Fin 16) (z : Fin 1) :
    val_main_v36 (F := Ideal) x l (ix2 b z)
      = Ideal.div (2 * Rouge.byPosition (fun s v => Rouge.softmax (fun u => x (ix3 b s u)) v) (lab b)) ((1024 : ℝ) : EReal) :=
  v36_of x l b z _ (v12_apply x l lab hl b)

end Cert.ReferenceIdeal.Hand
end
-- ==== Proof.Pre.lean ====
module

public import proofs.«01_k».proof.Proof.Gen.Pre_in_range
public import proofs.«01_k».proof.Proof.RefValue
public import Idealize.ShloMosaic.Lib.ReduceAll

/-! What the precondition says, element by element. -/

@[expose] public section

set_option maxRecDepth 16384

noncomputable section

namespace Cert.Pre_in_range.Hand

open Idealize.ShloMosaic
open Idealize.ShloMosaic.StableHlo.Predicate (ofBool_eq_one_iff)
open Cert.Pre_in_range Cert.Pre_in_range.Gen

/-- Two bits are both 1 if their `and` is. -/
theorem andi_one (a b : BitVec 1) (h : IntOp.andi a b = 1#1) : a = 1#1 ∧ b = 1#1 := by
  revert a b; decide

/-- A test that reads 1 holds. -/
theorem of_bit (A : Prop) [Decidable A] (h : BitVec.ofBool (decide A) = 1#1) : A := by
  by_contra hA
  rw [decide_eq_false hA] at h
  exact absurd h (by decide)

/-- A word at least 0 and below 1000, both read signed, is the word of a number below 1000. -/
theorem word_range (w : BitVec 32) (h0 : IntOp.cmpi .sge w 0#32 = 1#1) (h1 : IntOp.cmpi .slt w 1000#32 = 1#1) :
    ∃ n : Fin 1000, w = BitVec.ofNat 32 n.val := by
  have a0 : (0#32 : BitVec 32).sle w = true := (ofBool_eq_one_iff _).mp h0
  have a1 : w.slt 1000#32 = true := (ofBool_eq_one_iff _).mp h1
  have b0 : (0 : ℤ) ≤ w.toInt := by simpa [BitVec.sle] using a0
  have b1 : w.toInt < 1000 := by simpa [BitVec.slt] using a1
  have hw := w.isLt
  have hn : w.toNat < 1000 := by
    rw [BitVec.toInt_eq_toNat_cond] at b0 b1
    split_ifs at b0 b1 <;> omega
  exact ⟨⟨w.toNat, hn⟩, by rw [BitVec.ofNat_toNat, BitVec.setWidth_eq]⟩

/-- An element that compares above the `-inf` literal is above `-inf`. -/
theorem above [Facts] (p : FVec Ideal S16x512 .f32) (i : S16x512.Idx)
    (h : cmpf .ogt p (broadcastInDim S16x512 ![] Facts.bcast_S_S16x512 (constant S_ .f32 0xFF800000#32)) i = 1#1) : ⊥ < p i := by
  rw [← Cert.ReferenceIdeal.Hand.lit_neg_inf]
  exact of_bit _ h

/-- The predicate's result has one index. -/
instance : Subsingleton S_.Idx := ⟨fun a b => funext fun i => i.elim0⟩

/-- Under the precondition every logit is below `+inf`, every row's greatest logit is above `-inf`, and every label is
the word of a number below 1000. -/
theorem decode (x : FVec Ideal S16x512x1000 .f32) (l : IVec S16x512 32) (h : fn (F := Ideal) x l = fun _ => 1#1) :
    (∀ b s v, x (ix3 b s v) < ⊤) ∧ (∀ b s, ⊥ < Rouge.top fun v => x (ix3 b s v))
      ∧ ∃ lab : Fin 16 → Fin 512 → Fin 1000, ∀ b t, l (ix2 b t) = BitVec.ofNat 32 (lab b t).val := by
  have e := congrFun h fun i => i.elim0
  unfold fn fn_part1 at e
  obtain ⟨e, e4⟩ := andi_one _ _ e
  obtain ⟨e, e3⟩ := andi_one _ _ e
  obtain ⟨e1, e2⟩ := andi_one _ _ e
  have top_lit : Ideal.ofBits .f32 2139095040#32 = ⊤ := by simp [Ideal.ofBits, Ideal.ieee, -EReal.coe_mul]
  refine ⟨fun b s v => ?_, fun b s => ?_, ?_⟩
  · have k := Host.reduce_andi_all _ _ _ _ _ e1 (ix3 b s v)
    rw [← top_lit]
    exact of_bit _ k
  · have k := Host.reduce_andi_all _ _ _ _ _ e2 (ix2 b s)
    rw [← Cert.ReferenceIdeal.Hand.v0_apply x b s]
    exact above _ _ k
  · have k : ∀ b t, ∃ n : Fin 1000, l (ix2 b t) = BitVec.ofNat 32 n.val := fun b t =>
      word_range _ (Host.reduce_andi_all _ _ _ _ _ e3 (ix2 b t)) (Host.reduce_andi_all _ _ _ _ _ e4 (ix2 b t))
    choose lab hlab using k
    exact ⟨lab, hlab⟩

end Cert.Pre_in_range.Hand
end
-- ==== Proof.Equal.lean ====
module

public import proofs.«01_k».proof.Proof.KernelBlocks
public import proofs.«01_k».proof.Proof.Pre

/-! The two results are equal under the precondition. -/

@[expose] public section

noncomputable section

namespace Cert.Hand

open Idealize.ShloMosaic Idealize.ShloMosaic.TcCoe
open Cert.KernelIdeal

/-- The score of point `u` for its row `l` is the reference's result at row `2u + l`. -/
theorem score_eq (m : (ℓ : Loc nD τ sig) → Buf (Elt Ideal) ℓ) (c : Dev nD)
    (h : Cert.Pre_in_range.fn (F := Ideal) (m ((c : Thread nD τ).loc main_arg0)) (m ((c : Thread nD τ).loc main_arg1)) = fun _ => 1#1)
    (u : Fin cfg0.N) (l : Fin 2) (b : Fin 16) (z : Fin 1) (hb : b.val = 2 * u.val + l.val) :
    Cert.KernelIdeal.Hand.ptScore m c u (ix1 l)
      = Cert.ReferenceIdeal.Read.val_main_v36 (F := Ideal) (m ((c : Thread nD τ).loc main_arg0)) (m ((c : Thread nD τ).loc main_arg1)) (ix2 b z) := by
  obtain ⟨hx, hm, lab, hl⟩ := Cert.Pre_in_range.Hand.decode _ _ h
  rw [Cert.KernelIdeal.Hand.ptScore_apply m c u l b hb lab hl, Cert.ReferenceIdeal.Hand.v36_apply _ _ lab hl b z, Rouge.two_div,
    Rouge.byLabel_eq _ _ (fun s v => Rouge.prob_nonneg _ (hx b s) (hm b s) v) (by omega)]
  congr 2
  funext s v
  exact (Rouge.softmax_eq_prob _ (hx b s) (hm b s) v).symm

/-- An output array whose rows are the points' scores is the reference's result. -/
theorem result_eq (m : (ℓ : Loc nD τ sig) → Buf (Elt Ideal) ℓ) (c : Dev nD)
    (h : Cert.Pre_in_range.fn (F := Ideal) (m ((c : Thread nD τ).loc main_arg0)) (m ((c : Thread nD τ).loc main_arg1)) = fun _ => 1#1)
    (out : S16x1.Idx → EReal)
    (ho : ∀ (u : Fin cfg0.N) (l : Fin 2) (k : S16x1.Idx), (k 0).val = 2 * u.val + l.val → out k = Cert.KernelIdeal.Hand.ptScore m c u (ix1 l)) :
    out = Cert.ReferenceIdeal.Read.val_main_v36 (F := Ideal) (m ((c : Thread nD τ).loc main_arg0)) (m ((c : Thread nD τ).loc main_arg1)) := by
  funext k
  obtain ⟨b, z, rfl⟩ : ∃ (b : Fin 16) (z : Fin 1), k = ix2 b z :=
    ⟨k 0, k 1, by funext a; match a with | ⟨0, _⟩ => rfl | ⟨1, _⟩ => rfl⟩
  have hu : b.val / 2 < grid0.N := by rw [Cert.KernelIdeal.Gen.N_0]; omega
  have e : b.val = 2 * (⟨b.val / 2, hu⟩ : Fin cfg0.N).val + (⟨b.val % 2, by omega⟩ : Fin 2).val := by
    show b.val = 2 * (b.val / 2) + b.val % 2; omega
  exact (ho _ _ (ix2 b z) e).trans (score_eq m c h _ _ b z e)

end Cert.Hand
end
-- ==== Proof.Same.lean ====
module

public import proofs.«01_k».proof.Defs
public import proofs.«01_k».proof.Proof.Run
public import proofs.«01_k».proof.Proof.Gen.Kernel

/-! The kernel and its ideal form are one program text, so the frame of the one, proved at any float values, is the frame
of the other. -/

@[expose] public section

noncomputable section

namespace Cert.Kernel.Hand

open Idealize.ShloMosaic Idealize.SL.Sem

variable {F : FTy → Type} [FloatOps F]

/-- The two body tables agree at their one label. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- The two tables of the whole program agree. -/
theorem tables_eq : Cert.Kernel.defs (F := F) = Cert.KernelIdeal.defs (F := F) :=
  congrArg (Pipeline.defs Cert.KernelIdeal.pcfgs) bodies_eq

/-- The kernel's frame: it terminates, its arguments end as they began and the counters at zero. -/
theorem frame : Cert.quiescent_Kernel := fun m g _ => by
  rw [tables_eq]
  exact Cert.KernelIdeal.Hand.frame (F := Bits) m g

end Cert.Kernel.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Equal
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves the arguments as they were and the counters, of which it has none, at zero. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-- Under the precondition the kernel and the reference, from equal arguments, end with equal results, as extended reals. -/
theorem equal : Cert.algebraic_KernelIdeal_ReferenceIdeal_pre_in_range := fun m g m' g' hp ha =>
  ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun r h c => ⟨Cert.Hand.result_eq m c (hp c) _ (h c).1, (h c).2⟩) (Cert.KernelIdeal.Hand.result m g),
    (θ_run _ _ _).mono (fun r h c => ⟨by
        rw [(h c).1, Cert.ReferenceIdeal.Read.val_main_v36_eq, (ha c).1, (ha c).2], (h c).2⟩) (Cert.ReferenceIdeal.Value.run m' g')⟩

/-- The certificate: every claim. -/
theorem claim : Cert.Claim := ⟨Cert.Kernel.Gen.facts, Cert.KernelIdeal.Gen.facts, Cert.ReferenceIdeal.Gen.facts, Cert.Pre_in_range.Gen.facts,
  Cert.Kernel.Hand.frame,
  fun m g _ => Cert.KernelIdeal.Hand.frame m g,
  fun m g _ => Cert.KernelIdeal.Hand.frame m g,
  reference_frame,
  fun m g _ => reference_frame m g trivial,
  trivial,
  equal⟩

end Cert.Proof

end
